-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x512 : Shape := ⟨2, ![100000, 512]⟩
abbrev S512x512 : Shape := ⟨2, ![512, 512]⟩
abbrev S512 : Shape := ⟨1, ![512]⟩
abbrev S1x512 : Shape := ⟨2, ![1, 512]⟩
abbrev S5000x512 : Shape := ⟨2, ![5000, 512]⟩

abbrev nBuf : Space → Nat
  | .hbm => 8
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S100000x512, .f32⟩
  | .local _ .vmem, ⟨0, _⟩ => ⟨S5000x512, .f32⟩
  | .local _ .vmem, ⟨1, _⟩ => ⟨S5000x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S5000x512, .f32⟩
  | .local _ .vmem, ⟨7, _⟩ => ⟨S5000x512, .f32⟩
  | .local _ .vmem, ⟨8, _⟩ => ⟨S512x512, .bf16⟩
  | .local _ .vmem, ⟨9, _⟩ => ⟨S512x512, .bf16⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S100000x512 : Shape := ⟨2, ![100000, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S100000x512, .f32⟩
  | .hbm, ⟨7, _⟩ => ⟨S1x512, .f32⟩
  | .hbm, ⟨8, _⟩ => ⟨S100000x512, .f32⟩
  | .hbm, ⟨9, _⟩ => ⟨S100000x512, .f32⟩
  | .hbm, ⟨10, _⟩ => ⟨S_, .f32⟩
  | .hbm, ⟨11, _⟩ => ⟨S100000x512, .f32⟩
  | .hbm, ⟨12, _⟩ => ⟨S100000x512, .f32⟩
  | .hbm, ⟨13, _⟩ => ⟨S512x512, .f32⟩
  | .hbm, ⟨14, _⟩ => ⟨S100000x512, .f32⟩
  | .hbm, ⟨15, _⟩ => ⟨S1x512, .f32⟩
  | .hbm, ⟨16, _⟩ => ⟨S100000x512, .f32⟩
  | .hbm, ⟨17, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Proof.Mlp.Step.lean ====
/- What one grid point of the kernel leaves in the buffers that the claim needs: the output block and the two weight
   buffers that live on from point to point. At the first point the weights are cast and kept; at every later point
   they are left alone. In each case the output block is the store's payload `k0_pay3` of the input blocks. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Proof.Mlp

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The first point keeps the first layer's weights, cast. -/
theorem keep1_first (c : Dev nD) (t : Fin cfg0.N) (h : t.val % 20 = 0) :
    (outsAt0 m c t.val t.isLt).2.1 = k0_pay1 (iblk m c 1 t) := by
  rw [outsAt0_A m c t h]
  frame_out

/-- The first point keeps the second layer's weights, cast. -/
theorem keep2_first (c : Dev nD) (t : Fin cfg0.N) (h : t.val % 20 = 0) :
    (outsAt0 m c t.val t.isLt).2.2 = k0_pay2 (iblk m c 3 t) := by
  rw [outsAt0_A m c t h]
  frame_out

/-- A later point keeps the first layer's weights as the point before left them. -/
theorem keep1_later (c : Dev nD) (n : ℕ) (h : n + 1 < cfg0.N) (h0 : ¬(n + 1) % 20 = 0) :
    (outsAt0 m c (n + 1) h).2.1 = (outsAt0 m c n (Nat.lt_of_succ_lt h)).2.1 := by
  rw [outsAt0_B m c ⟨n + 1, h⟩ h0]
  rfl

/-- A later point keeps the second layer's weights as the point before left them. -/
theorem keep2_later (c : Dev nD) (n : ℕ) (h : n + 1 < cfg0.N) (h0 : ¬(n + 1) % 20 = 0) :
    (outsAt0 m c (n + 1) h).2.2 = (outsAt0 m c n (Nat.lt_of_succ_lt h)).2.2 := by
  rw [outsAt0_B m c ⟨n + 1, h⟩ h0]
  rfl

/-- After every point the output block is the payload of that point's rows and biases and of the two weight buffers
    as they stand after the point: the first point reads back what it has just cast, a later one what was kept. -/
theorem out_step (c : Dev nD) (t : Fin cfg0.N) :
    (outsAt0 m c t.val t.isLt).1
      = k0_pay3 (iblk m c 0 t) (outsAt0 m c t.val t.isLt).2.1 (iblk m c 2 t) (outsAt0 m c t.val t.isLt).2.2 (iblk m c 4 t) := by
  by_cases h : t.val % 20 = 0
  · rw [keep1_first m c t h, keep2_first m c t h, outsAt0_A m c t h]
    frame_out
  · rw [outsAt0_B m c t h]
    dsimp only
    unfold sout0_B_0 sout0_B_1
    frame_out
    simp only [read_unread_whole]

end Cert.Proof.Mlp

end
-- ==== Proof.Mlp.Tie.lean ====
/- The whole result at one index, over the extended reals: the kernel's output block, its weight buffers opened, is the
   two-layer perceptron of the arguments. -/
module

public import proofs.«01_k».proof.Proof.Mlp.Step
public import Idealize.ShloMosaic.Lib.IdealHost

@[expose] public section

set_option maxRecDepth 16384

noncomputable section

namespace Cert.Proof.Mlp

open Cert.KernelIdeal Cert.KernelIdeal.Gen Cert.KernelIdeal.Value Idealize.ShloMosaic Idealize.ShloMosaic.TcCoe
open Idealize.SL.Sem

variable (m : (ℓ : Loc nD τ sig) → Buf (Elt Ideal) ℓ)

/-- The two-layer perceptron of the arrays `x`, `W1`, `b1`, `W2`, `b2` at row `r` and column `q`: the hidden layer is the
    positive part of the first affine map of the row, the result the second affine map of the hidden layer. -/
def mlp (x : S100000x512.Idx → EReal) (W1 : S512x512.Idx → EReal) (b1 : S512.Idx → EReal) (W2 : S512x512.Idx → EReal)
    (b2 : S512.Idx → EReal) (r : Fin 100000) (q : Fin 512) : EReal :=
  ∑ k : Fin 512, max (∑ l : Fin 512, x (ix2 r l) * W1 (ix2 k l) + b1 (ix1 k)) 0 * W2 (ix2 q k) + b2 (ix1 q)

/-- The perceptron of the kernel's arguments as launched on device `c`. -/
abbrev mlpOf (c : Dev nD) (r : Fin 100000) (q : Fin 512) : EReal :=
  mlp (m ((c : Thread nD τ).loc main_arg0)) (m ((c : Thread nD τ).loc main_arg1)) (m ((c : Thread nD τ).loc main_arg2))
    (m ((c : Thread nD τ).loc main_arg3)) (m ((c : Thread nD τ).loc main_arg4)) r q

/-- Where each input window's block begins, decided over the twenty points: the rows move with the point, the weights
    and the biases stay. -/
theorem idx (t : Fin cfg0.N) : win0_0.index t = ![t.val, 0] ∧ win0_1.index t = ![0, 0] ∧ win0_2.index t = ![0, 0]
    ∧ win0_3.index t = ![0, 0] ∧ win0_4.index t = ![0, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0]) t

/-- The block of the first layer's weights is the whole array at every point, and the cast of it is the array. -/
theorem cast1 (c : Dev nD) (t : Fin cfg0.N) :
    k0_pay1 (F := Ideal) (iblk m c 1 t) = (m ((c : Thread nD τ).loc main_arg1) : Vec Ideal S512x512 .f32) := by
  funext j
  pointwise [k0_pay1]
  blk_point [iblk, V, idx t]

/-- The block of the second layer's weights is the whole array at every point, and the cast of it is the array. -/
theorem cast2 (c : Dev nD) (t : Fin cfg0.N) :
    k0_pay2 (F := Ideal) (iblk m c 3 t) = (m ((c : Thread nD τ).loc main_arg3) : Vec Ideal S512x512 .f32) := by
  funext j
  pointwise [k0_pay2]
  blk_point [iblk, V, idx t]

/-- Over the extended reals the cast is the identity, so after every point the kept weights of the first layer are the
    argument itself. -/
theorem keep1 (c : Dev nD) : ∀ (n : ℕ) (h : n < cfg0.N),
    (outsAt0 m c n h).2.1 = (m ((c : Thread nD τ).loc main_arg1) : Vec Ideal S512x512 .f32)
  | 0, h =>
    (keep1_first m c ⟨0, h⟩ rfl).trans (cast1 m c ⟨0, h⟩)
  | n + 1, h => by
    have hN : cfg0.N = 20 := N_0
    rw [keep1_later m c n h (by omega)]
    exact keep1 c n _

/-- The same of the second layer's weights. -/
theorem keep2 (c : Dev nD) : ∀ (n : ℕ) (h : n < cfg0.N),
    (outsAt0 m c n h).2.2 = (m ((c : Thread nD τ).loc main_arg3) : Vec Ideal S512x512 .f32)
  | 0, h =>
    (keep2_first m c ⟨0, h⟩ rfl).trans (cast2 m c ⟨0, h⟩)
  | n + 1, h => by
    have hN : cfg0.N = 20 := N_0
    rw [keep2_later m c n h (by omega)]
    exact keep2 c n _

/-- The output block after point `t`, at one of its indices, is the perceptron at the row of the array that the block's
    row is. -/
theorem out_apply (c : Dev nD) (t : Fin cfg0.N) (y : S5000x512.Idx) (r : Fin 100000) (q : Fin 512)
    (hr : r.val = 5000 * t.val + (y 0).val) (hq : q.val = (y 1).val) :
    (outsAt0 m c t.val t.isLt).1 y = mlpOf m c r q := by
  rw [out_step, keep1, keep2]
  pointwise [k0_pay3, mlpOf, mlp]
  blk_point [iblk, V, idx t]

/-- The array that the kernel leaves is the perceptron of its arguments, at every index. -/
theorem result_apply (c : Dev nD) (i : S100000x512.Idx) : G5 m c i = mlpOf m c (i 0) (i 1) := by
  have hN : cfg0.N = 20 := N_0
  have h0 : (i 0).val < 100000 := (i 0).isLt
  have h1 : (i 1).val < 512 := (i 1).isLt
  have hp : pt5Of i = (i 0).val / 5000 := by show 1 * _ + 1 * _ = _; omega
  have ht : pt5Of i < cfg0.N := by omega
  unfold G5
  rw [dif_pos ht, ← outsAt0_sweep m c _ ht]
  refine out_apply m c ⟨pt5Of i, ht⟩ (loc5Of i) (i 0) (i 1) ?_ ?_
  · show (i 0).val = 5000 * pt5Of i + (i 0).val % 5000
    omega
  · show (i 1).val = (i 1).val % 512
    omega

end Cert.Proof.Mlp

end
-- ==== Proof.Mlp.Host.lean ====
/- The plain reference at one index, over the extended reals: its transposed weights, its two products, its broadcast
   biases and its positive part are the two-layer perceptron of its arguments. -/
module

public import proofs.«01_k».proof.Proof.Mlp.Tie
public import proofs.«01_k».proof.Proof.Gen.ReferenceIdeal.Run

@[expose] public section

noncomputable section

namespace Cert.Proof.Mlp

open Cert.ReferenceIdeal Cert.ReferenceIdeal.Gen Idealize.ShloMosaic Idealize.ShloMosaic.TcCoe Idealize.SL.Sem

/-- Every run of the reference from memory `m'` ends with the result array at the perceptron of the arguments, and with
    the arguments as they were. -/
theorem host_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      (∀ i : S100000x512.Idx, r.2.mem ((c.tc : Thread nD τ).loc main_v10) i
        = mlp (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (i 0) (i 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run defs _ _).mono (fun r h c => ⟨fun i => ?_, (h c).2⟩) (Cert.ReferenceIdeal.Value.run (F := Ideal) m' ρ')
  rw [(h c).1]
  pointwise [mlp]

end Cert.Proof.Mlp

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Mlp.Host
public import Idealize.ShloMosaic.Adequacy
public import Idealize.ShloMosaic.Init
public import Idealize.ShloMosaic.Lib.Quiescent

@[expose] public section

noncomputable section

namespace Cert.Proof

open Idealize.ShloMosaic Idealize.SL.Sem

/-- The reference ends with its arguments unchanged and, declaring no semaphore, with every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same function over the extended reals: each leaves the perceptron of its arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Mlp.host_run m' ρ')
  funext i
  refine ((h c).1 i).trans (Eq.trans ?_ (Mlp.result_apply m c i).symm)
  simp only [hagree c]

/-- The whole claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal,
  (trivial : preserves_Kernel_KernelIdeal), algebraic_KernelIdeal_ReferenceIdeal⟩

end Cert.Proof

end
